-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x32x32x384 : Shape := ⟨4, ![16, 32, 32, 384]⟩
abbrev S128x384x3x3 : Shape := ⟨4, ![128, 384, 3, 3]⟩
abbrev S128 : Shape := ⟨1, ![128]⟩
abbrev S1x128x1x1 : Shape := ⟨4, ![1, 128, 1, 1]⟩
abbrev S1 : Shape := ⟨1, ![1]⟩
abbrev S3x3x384x128 : Shape := ⟨4, ![3, 3, 384, 128]⟩
abbrev S3x1152x128 : Shape := ⟨3, ![3, 1152, 128]⟩
abbrev S1x128 : Shape := ⟨2, ![1, 128]⟩
abbrev S1x1 : Shape := ⟨2, ![1, 1]⟩
abbrev S16x32x32x1 : Shape := ⟨4, ![16, 32, 32, 1]⟩
abbrev S4x32x32x384 : Shape := ⟨4, ![4, 32, 32, 384]⟩
abbrev S4x32x32x1 : Shape := ⟨4, ![4, 32, 32, 1]⟩
abbrev S2x1120x1152 : Shape := ⟨3, ![2, 1120, 1152]⟩
abbrev S1x32x32x384 : Shape := ⟨4, ![1, 32, 32, 384]⟩
abbrev S32x32x384 : Shape := ⟨3, ![32, 32, 384]⟩
abbrev S1024x384 : Shape := ⟨2, ![1024, 384]⟩
abbrev S1x384 : Shape := ⟨2, ![1, 384]⟩
abbrev S1023x384 : Shape := ⟨2, ![1023, 384]⟩
abbrev S1x1024x384 : Shape := ⟨3, ![1, 1024, 384]⟩
abbrev S1024x128 : Shape := ⟨2, ![1024, 128]⟩
abbrev S1x1024x1152 : Shape := ⟨3, ![1, 1024, 1152]⟩
abbrev S1024x1152 : Shape := ⟨2, ![1024, 1152]⟩
abbrev S1x1152x128 : Shape := ⟨3, ![1, 1152, 128]⟩
abbrev S1152x128 : Shape := ⟨2, ![1152, 128]⟩
abbrev S1024 : Shape := ⟨1, ![1024]⟩
abbrev S1024x1 : Shape := ⟨2, ![1024, 1]⟩
abbrev S32x32x1 : Shape := ⟨3, ![32, 32, 1]⟩
abbrev S1x32x32x1 : Shape := ⟨4, ![1, 32, 32, 1]⟩

abbrev nBuf : Space → Nat
  | .hbm => 12
  | .vmem => 9
  | .smem => 0
  | _ => 0

abbrev bufTy : (tb : Table) → Fin (tcTables nBuf tb) → BufTy
  | .hbm, ⟨0, _⟩ => ⟨S16x32x32x384, .f32⟩
  | .hbm, ⟨1, _⟩ => ⟨S128x384x3x3, .f32⟩
  | .hbm, ⟨2, _⟩ => ⟨S128, .f32⟩
  | .hbm, ⟨3, _⟩ => ⟨S1x128x1x1, .f32⟩
  | .hbm, ⟨4, _⟩ => ⟨S1, .f32⟩
  | .hbm, ⟨5, _⟩ => ⟨S3x3x384x128, .f32⟩
  | .hbm, ⟨6, _⟩ => ⟨S3x1152x128, .f32⟩
  | .hbm, ⟨7, _⟩ => ⟨S3x1152x128, .bf16⟩
  | .hbm, ⟨8, _⟩ => ⟨S1x128, .f32⟩
  | .hbm, ⟨9, _⟩ => ⟨S1x128, .f32⟩
  | .hbm, ⟨10, _⟩ => ⟨S1x1, .f32⟩
  | .hbm, ⟨11, _⟩ => ⟨S16x32x32x1, .f32⟩
  | .local _ .vmem, ⟨0, _⟩ => ⟨S4x32x32x384, .f32⟩
  | .local _ .vmem, ⟨1, _⟩ => ⟨S4x32x32x384, .f32⟩
  | .local _ .vmem, ⟨2, _⟩ => ⟨S3x1152x128, .bf16⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S4x32x32x1, .f32⟩
  | .local _ .vmem, ⟨7, _⟩ => ⟨S4x32x32x1, .f32⟩
  | .local _ .vmem, ⟨8, _⟩ => ⟨S2x1120x1152, .bf16⟩
  | _, _ => ⟨S16x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x32x32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x32x32x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x32x32x384 : Shape := ⟨4, ![16, 32, 32, 384]⟩
abbrev S128x384x3x3 : Shape := ⟨4, ![128, 384, 3, 3]⟩
abbrev S128 : Shape := ⟨1, ![128]⟩
abbrev S1x128x1x1 : Shape := ⟨4, ![1, 128, 1, 1]⟩
abbrev S1 : Shape := ⟨1, ![1]⟩
abbrev S_ : Shape := ⟨0, ![]⟩
abbrev S16x34x34x384 : Shape := ⟨4, ![16, 34, 34, 384]⟩
abbrev S16x32x32x128 : Shape := ⟨4, ![16, 32, 32, 128]⟩
abbrev S128x384x1x1 : Shape := ⟨4, ![128, 384, 1, 1]⟩
abbrev S128x384 : Shape := ⟨2, ![128, 384]⟩
abbrev S1x1x1x128 : Shape := ⟨4, ![1, 1, 1, 128]⟩
abbrev S1x128 : Shape := ⟨2, ![1, 128]⟩
abbrev S16x32x32x1 : Shape := ⟨4, ![16, 32, 32, 1]⟩
abbrev S1x1x1x1 : Shape := ⟨4, ![1, 1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S16x32x32x384, .f32⟩
  | .hbm, ⟨1, _⟩ => ⟨S128x384x3x3, .f32⟩
  | .hbm, ⟨2, _⟩ => ⟨S128, .f32⟩
  | .hbm, ⟨3, _⟩ => ⟨S1x128x1x1, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S16x34x34x384, .f32⟩
  | .hbm, ⟨8, _⟩ => ⟨S_, .f32⟩
  | .hbm, ⟨9, _⟩ => ⟨S16x32x32x128, .f32⟩
  | .hbm, ⟨10, _⟩ => ⟨S16x32x32x384, .f32⟩
  | .hbm, ⟨11, _⟩ => ⟨S128x384x1x1, .f32⟩
  | .hbm, ⟨12, _⟩ => ⟨S128x384, .f32⟩
  | .hbm, ⟨13, _⟩ => ⟨S16x32x32x128, .f32⟩
  | .hbm, ⟨14, _⟩ => ⟨S16x32x32x128, .f32⟩
  | .hbm, ⟨15, _⟩ => ⟨S16x32x32x384, .f32⟩
  | .hbm, ⟨16, _⟩ => ⟨S128x384x1x1, .f32⟩
  | .hbm, ⟨17, _⟩ => ⟨S128x384, .f32⟩
  | .hbm, ⟨18, _⟩ => ⟨S16x32x32x128, .f32⟩
  | .hbm, ⟨19, _⟩ => ⟨S16x32x32x128, .f32⟩
  | .hbm, ⟨20, _⟩ => ⟨S16x32x32x384, .f32⟩
  | .hbm, ⟨21, _⟩ => ⟨S128x384x1x1, .f32⟩
  | .hbm, ⟨22, _⟩ => ⟨S128x384, .f32⟩
  | .hbm, ⟨23, _⟩ => ⟨S16x32x32x128, .f32⟩
  | .hbm, ⟨24, _⟩ => ⟨S16x32x32x128, .f32⟩
  | .hbm, ⟨25, _⟩ => ⟨S16x32x32x384, .f32⟩
  | .hbm, ⟨26, _⟩ => ⟨S128x384x1x1, .f32⟩
  | .hbm, ⟨27, _⟩ => ⟨S128x384, .f32⟩
  | .hbm, ⟨28, _⟩ => ⟨S16x32x32x128, .f32⟩
  | .hbm, ⟨29, _⟩ => ⟨S16x32x32x128, .f32⟩
  | .hbm, ⟨30, _⟩ => ⟨S16x32x32x384, .f32⟩
  | .hbm, ⟨31, _⟩ => ⟨S128x384x1x1, .f32⟩
  | .hbm, ⟨32, _⟩ => ⟨S128x384, .f32⟩
  | .hbm, ⟨33, _⟩ => ⟨S16x32x32x128, .f32⟩
  | .hbm, ⟨34, _⟩ => ⟨S16x32x32x128, .f32⟩
  | .hbm, ⟨35, _⟩ => ⟨S16x32x32x384, .f32⟩
  | .hbm, ⟨36, _⟩ => ⟨S128x384x1x1, .f32⟩
  | .hbm, ⟨37, _⟩ => ⟨S128x384, .f32⟩
  | .hbm, ⟨38, _⟩ => ⟨S16x32x32x128, .f32⟩
  | .hbm, ⟨39, _⟩ => ⟨S16x32x32x128, .f32⟩
  | .hbm, ⟨40, _⟩ => ⟨S16x32x32x384, .f32⟩
  | .hbm, ⟨41, _⟩ => ⟨S128x384x1x1, .f32⟩
  | .hbm, ⟨42, _⟩ => ⟨S128x384, .f32⟩
  | .hbm, ⟨43, _⟩ => ⟨S16x32x32x128, .f32⟩
  | .hbm, ⟨44, _⟩ => ⟨S16x32x32x128, .f32⟩
  | .hbm, ⟨45, _⟩ => ⟨S16x32x32x384, .f32⟩
  | .hbm, ⟨46, _⟩ => ⟨S128x384x1x1, .f32⟩
  | .hbm, ⟨47, _⟩ => ⟨S128x384, .f32⟩
  | .hbm, ⟨48, _⟩ => ⟨S16x32x32x128, .f32⟩
  | .hbm, ⟨49, _⟩ => ⟨S16x32x32x128, .f32⟩
  | .hbm, ⟨50, _⟩ => ⟨S16x32x32x384, .f32⟩
  | .hbm, ⟨51, _⟩ => ⟨S128x384x1x1, .f32⟩
  | .hbm, ⟨52, _⟩ => ⟨S128x384, .f32⟩
  | .hbm, ⟨53, _⟩ => ⟨S16x32x32x128, .f32⟩
  | .hbm, ⟨54, _⟩ => ⟨S16x32x32x128, .f32⟩
  | .hbm, ⟨55, _⟩ => ⟨S1x1x1x128, .f32⟩
  | .hbm, ⟨56, _⟩ => ⟨S16x32x32x128, .f32⟩
  | .hbm, ⟨57, _⟩ => ⟨S16x32x32x128, .f32⟩
  | .hbm, ⟨58, _⟩ => ⟨S_, .f32⟩
  | .hbm, ⟨59, _⟩ => ⟨S16x32x32x128, .f32⟩
  | .hbm, ⟨60, _⟩ => ⟨S16x32x32x128, .f32⟩
  | .hbm, ⟨61, _⟩ => ⟨S1x128, .f32⟩
  | .hbm, ⟨62, _⟩ => ⟨S16x32x32x1, .f32⟩
  | .hbm, ⟨63, _⟩ => ⟨S1x1x1x1, .f32⟩
  | .hbm, ⟨64, _⟩ => ⟨S16x32x32x1, .f32⟩
  | .hbm, ⟨65, _⟩ => ⟨S16x32x32x1, .f32⟩
  | .hbm, ⟨66, _⟩ => ⟨S16x32x32x1, .f32⟩
  | .hbm, ⟨67, _⟩ => ⟨S16x32x32x1, .f32⟩
  | .hbm, ⟨68, _⟩ => ⟨S_, .f32⟩
  | .hbm, ⟨69, _⟩ => ⟨S16x32x32x1, .f32⟩
  | .hbm, ⟨70, _⟩ => ⟨S16x32x32x1, .f32⟩
  | .hbm, ⟨71, _⟩ => ⟨S_, .f32⟩
  | .hbm, ⟨72, _⟩ => ⟨S16x32x32x1, .f32⟩
  | .hbm, ⟨73, _⟩ => ⟨S16x32x32x1, .f32⟩
  | _, _ => ⟨S16x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_call1_cst : Ref sig .tc := ⟨.hbm, 58, rfl⟩
abbrev main_call1_v0 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_0 : Ref sig .tc := ⟨.hbm, 68, rfl⟩
abbrev main_v58 : Ref sig .tc := ⟨.hbm, 69, rfl⟩
abbrev main_v59 : Ref sig .tc := ⟨.hbm, 70, rfl⟩
abbrev main_cst_1 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]
-- ==== Proof.Picture.lean ====
/-
  One picture, and the three row-matrices the kernel makes of it.

  A block of the kernel's first argument is a picture of 32 by 32 points with 384 features each. The kernel flattens it to
  1024 rows, point (y, x) in row 32 * y + x, and also makes the same matrix moved one row down and one row up, in which
  the rows that would bring in a point of the neighbouring picture line are replaced by zero. This module says what those
  matrices hold, in terms of the picture with a border of zeros.
-/
module

public import proofs.«01_k».proof.Proof.Gen.KernelIdeal.Skeleton
public import Idealize.ShloMosaic.Lib.Pointwise
public import Idealize.ShloMosaic.Lib.Pipeline.Value

@[expose] public section

noncomputable section

namespace Cert.Saliency

open Cert.KernelIdeal Cert.KernelIdeal.Gen Idealize.ShloMosaic

/-- A picture: 32 by 32 points, 384 features at each. -/
abbrev Picture := Fin 32 → Fin 32 → Fin 384 → EReal

/-- The picture with a border of zeros: place (u, v) is point (u - 1, v - 1) of the picture where that is a point, and zero
    elsewhere. -/
def bordered (X : Picture) (u v : ℕ) (c : Fin 384) : EReal :=
  if h : (1 ≤ u ∧ u ≤ 32) ∧ (1 ≤ v ∧ v ≤ 32) then X ⟨u - 1, by omega⟩ ⟨v - 1, by omega⟩ c else 0

/-- The picture a one-picture block holds. -/
def picture (x : Vec Ideal S1x32x32x384 .f32) : Picture := fun y z c => x (ix4 0 y z c)

/-- Inside the border the bordered picture is the picture. -/
theorem bordered_inside (X : Picture) (u v : ℕ) (c : Fin 384) (y z : Fin 32) (hu : u = y.val + 1) (hv : v = z.val + 1) :
    bordered X u v c = X y z c := by
  subst hu hv
  have hy := y.isLt
  have hz := z.isLt
  rw [bordered, dif_pos (by omega)]
  congr 1

/-- On the border the bordered picture is zero. -/
theorem bordered_outside (X : Picture) (u v : ℕ) (c : Fin 384) (h : u = 0 ∨ u = 33 ∨ v = 0 ∨ v = 33) :
    bordered X u v c = 0 :=
  dif_neg (by omega)

/-- Row `n` of the flattened picture is point (n / 32, n % 32). -/
theorem flat_apply (x : Vec Ideal S1x32x32x384 .f32) (n : Fin 1024) (c : Fin 384) :
    k0_pay3 x (ix2 n c) = bordered (picture x) (n.val / 32 + 1) (n.val % 32 + 1) c := by
  have hn := n.isLt
  rw [bordered_inside (picture x) _ _ c ⟨n.val / 32, by omega⟩ ⟨n.val % 32, by omega⟩ rfl rfl]
  unfold k0_pay3
  refine (shapeCast_apply _ _ _ (ix3 ⟨n.val / 32, by omega⟩ ⟨n.val % 32, by omega⟩ c) ?_).trans ?_
  · rw [rowMajor_val3 _ (32 * 384) 384 rfl rfl, rowMajor_val2 _ 384 rfl]
    show n.val / 32 * (32 * 384) + n.val % 32 * 384 + c.val = n.val * 384 + c.val
    omega
  · refine (shapeCast_apply _ _ _ (ix4 0 ⟨n.val / 32, by omega⟩ ⟨n.val % 32, by omega⟩ c) ?_).trans rfl
    rw [rowMajor_val3 _ (32 * 384) 384 rfl rfl, rowMajor_val4 _ (32 * (32 * 384)) (32 * 384) 384 rfl rfl rfl]
    show 0 * (32 * (32 * 384)) + n.val / 32 * (32 * 384) + n.val % 32 * 384 + c.val = n.val / 32 * (32 * 384) + n.val % 32 * 384 + c.val
    omega

/-- The kernel's "row number modulo 32", spelled as it computes it: the remainder, moved up by 32 were it negative. -/
def rowMod : IVec S1024x384 32 :=
  select (andi (xori (cmpi .slt k0_pay6 (broadcast S1024x384 0#32))
      (broadcastTo S1024x384 (broadcast S1024x384 (Scalar.cmpi .slt (Scalar.select (Scalar.cmpi .eq 32#32 0#32) 1#32 32#32) 0#32))
        broadcasts_S1024x384_S1024x384)) (cmpi .ne k0_pay6 (broadcast S1024x384 0#32)))
    (addi k0_pay6 (broadcast S1024x384 (Scalar.select (Scalar.cmpi .eq 32#32 0#32) 1#32 32#32))) k0_pay6

/-- It is the row number modulo 32. -/
theorem rowMod_apply (n : Fin 1024) (c : Fin 384) : rowMod (ix2 n c) = BitVec.ofNat 32 (n.val % 32) := by
  have hi : iota .tc S1024x384 32 [0] iota_S1024x384_d0_w32 (ix2 n c) = BitVec.ofNat 32 n.val := iota_single_apply ..
  unfold rowMod k0_pay6
  pointwise [hi]
  clear hi c
  revert n
  decide +kernel

/-- The kernel's test that a row's number modulo 32 is `k`. -/
theorem rowTest (n : Fin 1024) (k : Fin 32) :
    IntOp.cmpi .eq (BitVec.ofNat 32 (n.val % 32)) (BitVec.ofNat 32 k.val) = if n.val % 32 = k.val then 1#1 else 0#1 := by
  have h : ∀ a k : Fin 32, IntOp.cmpi .eq (BitVec.ofNat 32 a.val) (BitVec.ofNat 32 k.val) = if a.val = k.val then 1#1 else 0#1 := by
    decide +kernel
  exact h ⟨n.val % 32, Nat.mod_lt _ (by decide)⟩ k

/-- The rows moved one down: row `n` holds the place left of point (n / 32, n % 32). -/
theorem down_apply (x : Vec Ideal S1x32x32x384 .f32) (n : Fin 1024) (c : Fin 384) :
    k0_pay5 x (ix2 n c) = bordered (picture x) (n.val / 32 + 1) (n.val % 32) c := by
  have hn := n.isLt
  have e : k0_pay5 x = select (cmpi .eq rowMod (broadcast S1024x384 0#32)) (broadcast S1024x384 (Scalar.ofBits .f32 0x00000000#32))
      (concatenate S1024x384 0 [⟨S1x384, k0_pay4 (F := Ideal)⟩, ⟨S1023x384, extractStridedSlice S1023x384 ![0, 0] (k0_pay3 x) slices_S1024x384_o0_0_S1023x384⟩]
        concatenates_S1x384_S1023x384_S1024x384_d0) := rfl
  rw [e]
  pointwise [rowMod_apply]
  have ht : IntOp.cmpi .eq (BitVec.ofNat 32 (n.val % 32)) 0#32 = if n.val % 32 = 0 then 1#1 else 0#1 := rowTest n 0
  rw [ht]
  by_cases h0 : n.val % 32 = 0
  · rw [if_pos h0, bordered_outside _ _ _ _ (by omega)]
    rfl
  · rw [if_neg h0, dif_neg (by omega), flat_apply]
    show bordered (picture x) ((n.val - 1) / 32 + 1) ((n.val - 1) % 32 + 1) c = _
    rw [show (n.val - 1) / 32 = n.val / 32 by omega, show (n.val - 1) % 32 + 1 = n.val % 32 by omega]

/-- The rows moved one up, as the kernel stores them. -/
def up (x : Vec Ideal S1x32x32x384 .f32) : FVec Ideal S1x1024x384 .bf16 :=
  k0_pay11 (k0_pay3 x) k0_pay4 (Scalar.select (Scalar.cmpi .eq 32#32 0#32) 1#32 32#32) k0_pay6 k0_pay7 k0_pay8

/-- The rows moved one up: row `n` holds the place right of point (n / 32, n % 32). -/
theorem up_apply (x : Vec Ideal S1x32x32x384 .f32) (n : Fin 1024) (c : Fin 384) :
    up x (ix3 0 n c) = bordered (picture x) (n.val / 32 + 1) (n.val % 32 + 2) c := by
  have hn := n.isLt
  have e : up x = shapeCast S1x1024x384 (truncf .bf16 (select (cmpi .eq rowMod (broadcast S1024x384 31#32)) (broadcast S1024x384 (Scalar.ofBits .f32 0x00000000#32))
      (concatenate S1024x384 0 [⟨S1023x384, extractStridedSlice S1023x384 ![1, 0] (k0_pay3 x) slices_S1024x384_o1_0_S1023x384⟩, ⟨S1x384, k0_pay4 (F := Ideal)⟩]
        concatenates_S1023x384_S1x384_S1024x384_d0)) bitsLt_bf16_f32) shapeCasts_S1024x384_S1x1024x384 := rfl
  rw [e]
  refine (shapeCast_apply _ _ _ (ix2 n c) ?_).trans ?_
  · rw [rowMajor_val3 _ (1024 * 384) 384 rfl rfl, rowMajor_val2 _ 384 rfl]
    show n.val * 384 + c.val = 0 * (1024 * 384) + n.val * 384 + c.val
    omega
  pointwise [rowMod_apply]
  have ht : IntOp.cmpi .eq (BitVec.ofNat 32 (n.val % 32)) 31#32 = if n.val % 32 = 31 then 1#1 else 0#1 := rowTest n 31
  rw [ht]
  by_cases h0 : n.val % 32 = 31
  · rw [if_pos h0, bordered_outside _ _ _ _ (by omega)]
    rfl
  · rw [if_neg h0, dif_pos (by omega), flat_apply]
    show bordered (picture x) ((1 + n.val) / 32 + 1) ((1 + n.val) % 32 + 1) c = _
    rw [show (1 + n.val) / 32 = n.val / 32 by omega, show (1 + n.val) % 32 + 1 = n.val % 32 + 2 by omega]

/-- The rows moved one down, as the kernel stores them. -/
def down (x : Vec Ideal S1x32x32x384 .f32) : FVec Ideal S1x1024x384 .bf16 := k0_pay9 (k0_pay5 x)

/-- The rows in place, as the kernel stores them. -/
def flat (x : Vec Ideal S1x32x32x384 .f32) : FVec Ideal S1x1024x384 .bf16 := k0_pay10 (k0_pay3 x)

/-- The three matrices side by side: `side x 0`, `side x 1`, `side x 2` are the rows moved down, in place, moved up. -/
def side (x : Vec Ideal S1x32x32x384 .f32) : Fin 3 → FVec Ideal S1x1024x384 .bf16
  | 0 => down x
  | 1 => flat x
  | 2 => up x

/-- Row `n` of matrix `d` holds the place `d` steps right of place (n / 32 + 1, n % 32) of the bordered picture. -/
theorem side_apply (x : Vec Ideal S1x32x32x384 .f32) (d : Fin 3) (n : Fin 1024) (c : Fin 384) :
    side x d (ix3 0 n c) = bordered (picture x) (n.val / 32 + 1) (n.val % 32 + d.val) c := by
  have hc : ∀ v : FVec Ideal S1024x384 .f32,
      (shapeCast S1x1024x384 (truncf .bf16 v bitsLt_bf16_f32) shapeCasts_S1024x384_S1x1024x384 : FVec Ideal S1x1024x384 .bf16) (ix3 0 n c) = v (ix2 n c) := by
    intro v
    refine (shapeCast_apply _ _ _ (ix2 n c) ?_).trans rfl
    rw [rowMajor_val3 _ (1024 * 384) 384 rfl rfl, rowMajor_val2 _ 384 rfl]
    show n.val * 384 + c.val = 0 * (1024 * 384) + n.val * 384 + c.val
    omega
  match d with
  | 0 => exact (hc _).trans (down_apply x n c)
  | 1 => exact (hc _).trans (flat_apply x n c)
  | 2 => exact up_apply x n c

end Cert.Saliency
-- ==== Proof.Slab.lean ====
/-
  What the kernel's scratch array holds.

  The scratch array is two slabs of 1120 rows and 1152 columns. For one picture the kernel lays three matrices of 1024
  rows into one slab, side by side, at rows 48 to 1071; the rows above and below, the halo, it clears once at the
  start and never again. Rows 16 to 1103 of a slab whose halo is zero are then the bordered picture: three column groups,
  the group `d` being the bordered picture read `d` places to the right. A load of 1024 rows from row 16 + 32 * t is the
  bordered picture from line `t` on.
-/
module

public import proofs.«01_k».proof.Proof.Picture
public import Idealize.ShloMosaic.Lib.Writes

@[expose] public section

noncomputable section

namespace Cert.Saliency

open Cert.KernelIdeal Cert.KernelIdeal.Gen Idealize.ShloMosaic

variable {κ : Kind} {sp : Space} (v : View sig κ sp S2x1120x1152 .bf16) (f : v.ty.Contents (Elt Ideal))

/-- A 1024 by 384 matrix at row 48 and column 384 * d of either slab is within the scratch array. -/
theorem laid_inb (b : Fin 2) (d : Fin 3) : ∀ a, (![b.val, 48, 384 * d.val] : Fin 3 → Nat) a + S1x1024x384.size a ≤ S2x1120x1152.size a := by
  revert b d
  decide

/-- The store of matrix `d` of picture `x` into slab `b`. -/
def lay (b : Fin 2) (x : Vec Ideal S1x32x32x384 .f32) (d : Fin 3) : View.Piece (Elt Ideal) S2x1120x1152 .bf16 :=
  ⟨Rect.unit (s := S2x1120x1152) ![b.val, 48, 384 * d.val] S1x1024x384.size (laid_inb b d), side x d⟩

/-- The three stores of a picture into slab `b`, newest first, over what was stored before. -/
def laid (b : Fin 2) (x : Vec Ideal S1x32x32x384 .f32) (L : List (View.Piece (Elt Ideal) S2x1120x1152 .bf16)) :
    List (View.Piece (Elt Ideal) S2x1120x1152 .bf16) :=
  lay b x 2 :: lay b x 1 :: lay b x 0 :: L

/-- A place in the rows and columns of matrix `d` holds that matrix's entry. -/
theorem lay_hit (b : Fin 2) (x : Vec Ideal S1x32x32x384 .f32) (d : Fin 3) (L : List (View.Piece (Elt Ideal) S2x1120x1152 .bf16))
    (y : S2x1120x1152.Idx) (n : Fin 1024) (c : Fin 384) (h0 : (y 0).val = b.val) (h1 : (y 1).val = 48 + n.val) (h2 : (y 2).val = 384 * d.val + c.val) :
    v.read (Elt Ideal) (v.writes (Elt Ideal) f (lay b x d :: L)) y = side x d (ix3 0 n c) := by
  refine v.read_writes_cons_hit_of_coords f (Rect.unit (s := S2x1120x1152) ![b.val, 48, 384 * d.val] S1x1024x384.size (laid_inb b d)) (side x d) L
    (ix3 0 n c) y fun a => ?_
  match a with
  | ⟨0, _⟩ => show (y 0).val = b.val + 1 * 0; omega
  | ⟨1, _⟩ => show (y 1).val = 48 + 1 * n.val; omega
  | ⟨2, _⟩ => show (y 2).val = 384 * d.val + 1 * c.val; omega

/-- A place in the columns of another matrix keeps what it held. -/
theorem lay_miss (b : Fin 2) (x : Vec Ideal S1x32x32x384 .f32) (d e : Fin 3) (L : List (View.Piece (Elt Ideal) S2x1120x1152 .bf16))
    (y : S2x1120x1152.Idx) (c : Fin 384) (hde : d ≠ e) (h2 : (y 2).val = 384 * e.val + c.val) :
    v.read (Elt Ideal) (v.writes (Elt Ideal) f (lay b x d :: L)) y = v.read (Elt Ideal) (v.writes (Elt Ideal) f L) y := by
  have hc := c.isLt
  have hd : d.val ≠ e.val := fun h => hde (Fin.ext h)
  refine v.read_writes_cons_miss_of_axis f _ L y 2 (384 * d.val) 384 rfl rfl rfl ?_
  omega

/-- A place in the halo keeps what it held. -/
theorem lay_halo (b : Fin 2) (x : Vec Ideal S1x32x32x384 .f32) (d : Fin 3) (L : List (View.Piece (Elt Ideal) S2x1120x1152 .bf16))
    (y : S2x1120x1152.Idx) (h1 : (y 1).val < 48 ∨ 1072 ≤ (y 1).val) :
    v.read (Elt Ideal) (v.writes (Elt Ideal) f (lay b x d :: L)) y = v.read (Elt Ideal) (v.writes (Elt Ideal) f L) y :=
  v.read_writes_cons_miss_of_axis f _ L y 1 48 1024 rfl rfl rfl (by omega)

/-- After the three stores a place in rows 48 to 1071 of the slab holds the entry of the matrix whose columns it is in. -/
theorem laid_inside (b : Fin 2) (x : Vec Ideal S1x32x32x384 .f32) (d : Fin 3) (L : List (View.Piece (Elt Ideal) S2x1120x1152 .bf16))
    (y : S2x1120x1152.Idx) (n : Fin 1024) (c : Fin 384) (h0 : (y 0).val = b.val) (h1 : (y 1).val = 48 + n.val) (h2 : (y 2).val = 384 * d.val + c.val) :
    v.read (Elt Ideal) (v.writes (Elt Ideal) f (laid b x L)) y = side x d (ix3 0 n c) := by
  match d with
  | 2 => exact lay_hit v f b x 2 _ y n c h0 h1 h2
  | 1 => exact (lay_miss v f b x 2 1 _ y c (by decide) h2).trans (lay_hit v f b x 1 _ y n c h0 h1 h2)
  | 0 => exact (lay_miss v f b x 2 0 _ y c (by decide) h2).trans ((lay_miss v f b x 1 0 _ y c (by decide) h2).trans (lay_hit v f b x 0 _ y n c h0 h1 h2))

/-- The halo of the scratch array reads zero. -/
def HaloZero (g : S2x1120x1152.Idx → EReal) : Prop := ∀ y, (y 1).val < 48 ∨ 1072 ≤ (y 1).val → g y = 0

/-- Laying a picture leaves a zero halo zero. -/
theorem HaloZero.laid (b : Fin 2) (x : Vec Ideal S1x32x32x384 .f32) {L : List (View.Piece (Elt Ideal) S2x1120x1152 .bf16)}
    (h : HaloZero (v.read (Elt Ideal) (v.writes (Elt Ideal) f L))) : HaloZero (v.read (Elt Ideal) (v.writes (Elt Ideal) f (laid b x L))) :=
  fun y hy => (lay_halo v f b x 2 _ y hy).trans ((lay_halo v f b x 1 _ y hy).trans ((lay_halo v f b x 0 _ y hy).trans (h y hy)))

/-- Lines `t` to `t + 31` of the bordered picture as a matrix: row `n` and column 384 * d + c is the bordered picture at
    line t + n / 32 and place n % 32 + d, feature `c`. -/
def IsLines (X : Picture) (t : Fin 3) (g : Fin 1024 → Fin 1152 → EReal) : Prop :=
  ∀ (n : Fin 1024) (d : Fin 3) (c : Fin 384) (l : Fin 1152), l.val = 384 * d.val + c.val →
    g n l = bordered X (t.val + n.val / 32) (n.val % 32 + d.val) c

/-- 1024 rows from row 16, 48 or 80 of either slab are within the scratch array. -/
theorem load_inb (b : Fin 2) (t : Fin 3) : ∀ a, (![b.val, 16 + 32 * t.val, 0] : Fin 3 → Nat) a + S1x1024x1152.size a ≤ S2x1120x1152.size a := by
  revert b t
  decide

/-- The load of 1024 rows from row 16 + 32 * t of slab `b`, after the stores `L` over contents `f`. -/
def load (L : List (View.Piece (Elt Ideal) S2x1120x1152 .bf16)) (b : Fin 2) (t : Fin 3) : Vec Ideal S1x1024x1152 .bf16 :=
  View.readAt (Elt Ideal) v (Rect.unit (s := S2x1120x1152) ![b.val, 16 + 32 * t.val, 0] S1x1024x1152.size (load_inb b t)).toLoadRect
    (v.writes (Elt Ideal) f L)

/-- A load of 1024 rows from row 16 + 32 * t of the slab a picture was laid into is lines `t` to `t + 31` of the bordered
    picture. For `t = 1` the load stays clear of the halo; for the others the halo must be zero. -/
theorem load_isLines (b : Fin 2) (x : Vec Ideal S1x32x32x384 .f32) (L : List (View.Piece (Elt Ideal) S2x1120x1152 .bf16)) (t : Fin 3)
    (h : t = 1 ∨ HaloZero (v.read (Elt Ideal) (v.writes (Elt Ideal) f L))) :
    IsLines (picture x) t fun n l => load v f (laid b x L) b t (ix3 0 n l) := by
  intro n d c l hl
  have hn := n.isLt
  have ht := t.isLt
  show v.read (Elt Ideal) (v.writes (Elt Ideal) f (laid b x L)) (LoadRect.idx (Rect.unit (s := S2x1120x1152) ![b.val, 16 + 32 * t.val, 0] S1x1024x1152.size (load_inb b t)).toLoadRect (ix3 0 n l)) = _
  set y := LoadRect.idx (Rect.unit (s := S2x1120x1152) ![b.val, 16 + 32 * t.val, 0] S1x1024x1152.size (load_inb b t)).toLoadRect (ix3 0 n l) with hy
  have h0 : (y 0).val = b.val := by rw [hy]; show b.val + 1 * 0 = b.val; omega
  have h1 : (y 1).val = 16 + 32 * t.val + n.val := by rw [hy]; show 16 + 32 * t.val + 1 * n.val = _; omega
  have h2 : (y 2).val = 384 * d.val + c.val := by rw [hy]; show 0 + 1 * l.val = _; omega
  clear_value y
  by_cases hh : (y 1).val < 48 ∨ 1072 ≤ (y 1).val
  · rcases h with rfl | h
    · exact absurd hh (by show ¬ _; simp only [Fin.val_one] at h1; omega)
    · rw [HaloZero.laid v f b x h y hh, bordered_outside _ _ _ _ (by omega)]
  · rw [laid_inside v f b x d L y ⟨(y 1).val - 48, by omega⟩ c h0 (by show (y 1).val = 48 + ((y 1).val - 48); omega) h2, side_apply]
    show bordered (picture x) (((y 1).val - 48) / 32 + 1) (((y 1).val - 48) % 32 + d.val) c = _
    rw [show ((y 1).val - 48) / 32 + 1 = t.val + n.val / 32 by omega, show ((y 1).val - 48) % 32 = n.val % 32 by omega]

end Cert.Saliency
-- ==== Proof.Head.lean ====
/-
  What the kernel computes for one picture.

  From three loads of the scratch array and the three parts of the weights it forms the 3 by 3 convolution by three
  matrix products, adds the first bias, cuts at zero, weighs and sums the 128 channels, adds the second bias, and applies the
  logistic function. This module reads that value at one point of the picture.
-/
module

public import proofs.«01_k».proof.Proof.Slab
public import Idealize.ShloMosaic.Lib.Pointwise

@[expose] public section

noncomputable section

namespace Cert.Saliency

open Cert.KernelIdeal Cert.KernelIdeal.Gen Idealize.ShloMosaic

/-- The convolution's weights: channel, feature, line of the window, place in the window. -/
abbrev Weights := Fin 128 → Fin 384 → Fin 3 → Fin 3 → EReal

/-- The 3 by 3 convolution of the bordered picture, at point (y, z) and channel `o`. -/
def conv (X : Picture) (W : Weights) (y z : ℕ) (o : Fin 128) : EReal :=
  ∑ t : Fin 3, ∑ d : Fin 3, ∑ c : Fin 384, bordered X (t.val + y) (z + d.val) c * W o c t d

/-- The saliency at point (y, z): the logistic function of the weighed sum of the cut convolution channels. -/
def saliency (X : Picture) (W : Weights) (b w : Fin 128 → EReal) (e : EReal) (y z : ℕ) : EReal :=
  Ideal.logistic ((∑ o : Fin 128, max (conv X W y z o + b o) 0 * w o) + e)

/-- The weights of window line `t` as a matrix: row 384 * d + c holds the weights of place `d` and feature `c`. -/
def IsWeights (W : Weights) (t : Fin 3) (g : Fin 1152 → Fin 128 → EReal) : Prop :=
  ∀ (d : Fin 3) (c : Fin 384) (l : Fin 1152) (o : Fin 128), l.val = 384 * d.val + c.val → g l o = W o c t d

/-- One of the three matrix products is the part of the convolution that window line `t` makes. -/
theorem product_eq {X : Picture} {W : Weights} {t : Fin 3} {g : Fin 1024 → Fin 1152 → EReal} {w : Fin 1152 → Fin 128 → EReal}
    (hg : IsLines X t g) (hw : IsWeights W t w) (n : Fin 1024) (o : Fin 128) :
    ∑ l : Fin 1152, g n l * w l o = ∑ d : Fin 3, ∑ c : Fin 384, bordered X (t.val + n.val / 32) (n.val % 32 + d.val) c * W o c t d := by
  rw [Fin.sum_univ_tiles 3 384 rfl]
  refine Finset.sum_congr rfl fun d _ => Finset.sum_congr rfl fun c _ => ?_
  rw [hg n d c _ (by show d.val * 384 + c.val = _; omega), hw d c _ o (by show d.val * 384 + c.val = _; omega)]

/-- The kernel's computation for one picture, from the three loads `p`, `q`, `r` of the scratch array, the three parts `u`, `v`, `w`
    of the weights, and the two biases and the second weights. -/
def head (p : Vec Ideal S1x1024x1152 .bf16) (u : Vec Ideal S1x1152x128 .bf16) (q : Vec Ideal S1x1024x1152 .bf16) (v : Vec Ideal S1x1152x128 .bf16)
    (r : Vec Ideal S1x1024x1152 .bf16) (w : Vec Ideal S1x1152x128 .bf16) (b k : Vec Ideal S1x128 .f32) (e : Vec Ideal S1x1 .f32) :
    FVec Ideal S1x32x32x1 .f32 :=
  k0_pay13 (k0_pay12 p u) q v r w b k e

/-- Where the loads are lines of the bordered picture and the weights' parts are the window's lines, that computation is the
    saliency, at every point of the picture. -/
theorem head_apply {X : Picture} {W : Weights} {p q r : Vec Ideal S1x1024x1152 .bf16} {u v w : Vec Ideal S1x1152x128 .bf16}
    (hp : IsLines X 0 fun n l => p (ix3 0 n l)) (hq : IsLines X 1 fun n l => q (ix3 0 n l)) (hr : IsLines X 2 fun n l => r (ix3 0 n l))
    (hu : IsWeights W 0 fun l o => u (ix3 0 l o)) (hv : IsWeights W 1 fun l o => v (ix3 0 l o)) (hw : IsWeights W 2 fun l o => w (ix3 0 l o))
    (b k : Vec Ideal S1x128 .f32) (e : Vec Ideal S1x1 .f32) (y z : Fin 32) :
    head p u q v r w b k e (ix4 0 y z 0) = saliency X W (fun o => b (ix2 0 o)) (fun o => k (ix2 0 o)) (e (ix2 0 0)) y.val z.val := by
  have hy := y.isLt
  have hz := z.isLt
  have h0 := product_eq hp hu
  have h1 := product_eq hq hv
  have h2 := product_eq hr hw
  unfold head
  pointwise [k0_pay13, k0_pay12, dot_S1024x1152_S1152x128_S1024x128_1_0_0_1_n_n]
  unfold saliency
  refine congrArg Ideal.logistic (congrArg (· + e (ix2 0 0)) (Finset.sum_congr rfl fun o _ => ?_))
  refine congrArg (fun s => max (s + b (ix2 0 o)) 0 * k (ix2 0 o)) ?_
  refine (congrArg₂ (· + ·) (congrArg₂ (· + ·) (h0 _ o) (h1 _ o)) (h2 _ o)).trans ?_
  simp only [show (y.val * 32 + z.val) / 32 = y.val by omega, show (y.val * 32 + z.val) % 32 = z.val by omega]
  exact (Fin.sum_univ_three fun t : Fin 3 => ∑ d : Fin 3, ∑ c : Fin 384, bordered X (t.val + y.val) (z.val + d.val) c * W o c t d).symm

end Cert.Saliency
-- ==== Proof.Body.lean ====
/-
  What one grid point computes.

  At a grid point the kernel takes four pictures, one after the other: it lays the picture into a slab of the scratch
  array, the slabs taking turns, loads the three bands of rows, and stores the saliency of the picture in its part of the
  output block. At the first grid point the scratch array is cleared first; at the others it is as the point before left it.
  This module shows that the output block holds the four saliencies and that the halo of the scratch array stays zero.
-/
module

public import proofs.«01_k».proof.Proof.Head
public import proofs.«01_k».proof.Proof.Gen.KernelIdeal.Frame

@[expose] public section

noncomputable section

namespace Cert.Saliency

open Cert.KernelIdeal Cert.KernelIdeal.Gen Idealize.ShloMosaic Idealize.ShloMosaic.TcCoe Idealize.SL.Sem

/-- Picture `g` of a block of four is within the block. -/
theorem block_inb (g : Fin 4) : ∀ a, (![g.val, 0, 0, 0] : Fin 4 → Nat) a + S1x32x32x384.size a ≤ S4x32x32x384.size a := by
  revert g
  decide

/-- Part `t` of the weights is within them. -/
theorem weight_inb (t : Fin 3) : ∀ a, (![t.val, 0, 0] : Fin 3 → Nat) a + S1x1152x128.size a ≤ S3x1152x128.size a := by
  revert t
  decide

/-- Part `g` of an output block is within it. -/
theorem out_inb (g : Fin 4) : ∀ a, (![g.val, 0, 0, 0] : Fin 4 → Nat) a + S1x32x32x1.size a ≤ S4x32x32x1.size a := by
  revert g
  decide

/-- The load of picture `g` of the block. -/
def pic (a : Memref sig .tc .vmem S4x32x32x384 .f32) (h : a.IsWhole) (x : Vec Ideal S4x32x32x384 .f32) (g : Fin 4) : Vec Ideal S1x32x32x384 .f32 :=
  View.readAt (Elt Ideal) a.view (Rect.unit (s := S4x32x32x384) ![g.val, 0, 0, 0] S1x32x32x384.size (block_inb g)).toLoadRect (h.unread x)

/-- The load of part `t` of the weights. -/
def part (a : Memref sig .tc .vmem S3x1152x128 .bf16) (h : a.IsWhole) (x : Vec Ideal S3x1152x128 .bf16) (t : Fin 3) : Vec Ideal S1x1152x128 .bf16 :=
  View.readAt (Elt Ideal) a.view (Rect.unit (s := S3x1152x128) ![t.val, 0, 0] S1x1152x128.size (weight_inb t)).toLoadRect (h.unread x)

/-- The load of a whole row of 128 numbers. -/
def row (a : Memref sig .tc .vmem S1x128 .f32) (h : a.IsWhole) (x : Vec Ideal S1x128 .f32) : Vec Ideal S1x128 .f32 :=
  View.readAt (Elt Ideal) a.view (Rect.unit (s := S1x128) ![0, 0] S1x128.size inb_S1x128_S1x128_0_0).toLoadRect (h.unread x)

/-- The load of the one number of a 1 by 1 block. -/
def one (a : Memref sig .tc .vmem S1x1 .f32) (h : a.IsWhole) (x : Vec Ideal S1x1 .f32) : Vec Ideal S1x1 .f32 :=
  View.readAt (Elt Ideal) a.view (Rect.unit (s := S1x1) ![0, 0] S1x1.size inb_S1x1_S1x1_0_0).toLoadRect (h.unread x)

/-- The slab picture `k` uses: they take turns. -/
def slabOf (k : ℕ) : Fin 2 := ⟨k % 2, Nat.mod_lt _ (by decide)⟩

/-- The stores into the scratch array after the first `k` pictures, newest first, over the stores `L`. -/
def stored (im : Fin 4 → Vec Ideal S1x32x32x384 .f32) (L : List (View.Piece (Elt Ideal) S2x1120x1152 .bf16)) :
    ℕ → List (View.Piece (Elt Ideal) S2x1120x1152 .bf16)
  | 0 => L
  | k + 1 => laid (slabOf k) (im ⟨k % 4, Nat.mod_lt _ (by decide)⟩) (stored im L k)

/-- The store of picture `g`'s part of the output block, of value `w`. -/
def put (g : Fin 4) (w : FVec Ideal S1x32x32x1 .f32) : View.Piece (Elt Ideal) S4x32x32x1 .f32 :=
  ⟨Rect.unit (s := S4x32x32x1) ![g.val, 0, 0, 0] S1x32x32x1.size (out_inb g), w⟩

section Run

variable (c : Dev nD) (i : grid0.Coords) (arg1 : Memref sig .tc .vmem S4x32x32x384 .f32) (harg1 : arg1.IsWhole)
  (arg2 : Memref sig .tc .vmem S3x1152x128 .bf16) (harg2 : arg2.IsWhole) (arg3 : Memref sig .tc .vmem S1x128 .f32) (harg3 : arg3.IsWhole)
  (arg4 : Memref sig .tc .vmem S1x128 .f32) (harg4 : arg4.IsWhole) (arg5 : Memref sig .tc .vmem S1x1 .f32) (harg5 : arg5.IsWhole)
  (arg6 : Memref sig .tc .vmem S4x32x32x1 .f32) (harg6 : arg6.IsWhole) (arg7 : Memref sig .tc .vmem S2x1120x1152 .bf16) (harg7 : arg7.IsWhole)
  (x0 : Vec Ideal S4x32x32x384 .f32) (x1 : Vec Ideal S3x1152x128 .bf16) (x2 x3 : Vec Ideal S1x128 .f32) (x4 : Vec Ideal S1x1 .f32)

/-- What is stored for picture `g`: the three loads are of the scratch array as `L` says it was before the first picture and the pictures
    up to `g` left it, over contents `f` for the outer loads and `f'` for the middle one. -/
def result (f f' : arg7.view.ty.Contents (Elt Ideal)) (L : List (View.Piece (Elt Ideal) S2x1120x1152 .bf16)) (g : Fin 4) : FVec Ideal S1x32x32x1 .f32 :=
  head (load arg7.view f (stored (pic arg1 harg1 x0) L (g.val + 1)) (slabOf g.val) 0) (part arg2 harg2 x1 0)
    (load arg7.view f' (stored (pic arg1 harg1 x0) L (g.val + 1)) (slabOf g.val) 1) (part arg2 harg2 x1 1)
    (load arg7.view f (stored (pic arg1 harg1 x0) L (g.val + 1)) (slabOf g.val) 2) (part arg2 harg2 x1 2)
    (row arg3 harg3 x2) (row arg4 harg4 x3) (one arg5 harg5 x4)

/-- The stores into the output block at a grid point after the first. -/
theorem puts_later (hc : ¬cond0_0 i) (xs : Vec Ideal S2x1120x1152 .bf16) :
    (kernelRun0_B (F := Ideal) c i arg1 harg1 arg2 harg2 arg3 harg3 arg4 harg4 arg5 harg5 arg6 harg6 arg7 harg7 hc x0 x1 x2 x3 x4 xs).1 =
      [3, 2, 1, 0].map fun g : Fin 4 => put g
        (result arg1 harg1 arg2 harg2 arg3 harg3 arg4 harg4 arg5 harg5 arg7 x0 x1 x2 x3 x4 (harg7.unread xs) arg7.view.junk [] g) := by
  rfl

/-- The stores into the scratch array at a grid point after the first. -/
theorem scratch_later (hc : ¬cond0_0 i) (xs : Vec Ideal S2x1120x1152 .bf16) :
    (kernelRun0_B (F := Ideal) c i arg1 harg1 arg2 harg2 arg3 harg3 arg4 harg4 arg5 harg5 arg6 harg6 arg7 harg7 hc x0 x1 x2 x3 x4 xs).2.1 =
      stored (pic arg1 harg1 x0) [] 4 := by
  rfl

/-- The store that clears the scratch array. -/
def cleared : View.Piece (Elt Ideal) S2x1120x1152 .bf16 :=
  ⟨Rect.unit (s := S2x1120x1152) ![0, 0, 0] S2x1120x1152.size inb_S2x1120x1152_S2x1120x1152_0_0_0, k0_pay2 (F := Ideal)⟩

/-- The stores into the output block at the first grid point. -/
theorem puts_first (hc : cond0_0 i) :
    (kernelRun0_A (F := Ideal) c i arg1 harg1 arg2 harg2 arg3 harg3 arg4 harg4 arg5 harg5 arg6 harg6 arg7 harg7 hc x0 x1 x2 x3 x4).1 =
      [3, 2, 1, 0].map fun g : Fin 4 => put g
        (result arg1 harg1 arg2 harg2 arg3 harg3 arg4 harg4 arg5 harg5 arg7 x0 x1 x2 x3 x4 arg7.view.junk arg7.view.junk [cleared] g) := by
  rfl

/-- The stores into the scratch array at the first grid point. -/
theorem scratch_first (hc : cond0_0 i) :
    (kernelRun0_A (F := Ideal) c i arg1 harg1 arg2 harg2 arg3 harg3 arg4 harg4 arg5 harg5 arg6 harg6 arg7 harg7 hc x0 x1 x2 x3 x4).2.1 =
      stored (pic arg1 harg1 x0) [cleared] 4 := by
  rfl

/-- Clearing makes the halo zero (and everything else). -/
theorem haloZero_cleared {κ : Kind} {sp : Space} (v : View sig κ sp S2x1120x1152 .bf16) (f : v.ty.Contents (Elt Ideal)) :
    HaloZero (v.read (Elt Ideal) (v.writes (Elt Ideal) f [cleared])) := by
  intro y _
  refine (v.read_writes_cons_hit_of_coords f (Rect.unit (s := S2x1120x1152) ![0, 0, 0] S2x1120x1152.size inb_S2x1120x1152_S2x1120x1152_0_0_0)
    (k0_pay2 (F := Ideal)) [] y y fun a => ?_).trans ?_
  · match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  · pointwise [k0_pay2]

/-- The pictures' stores leave a zero halo zero. -/
theorem HaloZero.stored {κ : Kind} {sp : Space} (v : View sig κ sp S2x1120x1152 .bf16) (f : v.ty.Contents (Elt Ideal))
    (im : Fin 4 → Vec Ideal S1x32x32x384 .f32) {L : List (View.Piece (Elt Ideal) S2x1120x1152 .bf16)}
    (h : HaloZero (v.read (Elt Ideal) (v.writes (Elt Ideal) f L))) :
    ∀ k, HaloZero (v.read (Elt Ideal) (v.writes (Elt Ideal) f (stored im L k)))
  | 0 => h
  | k + 1 => (HaloZero.stored v f im h k).laid v f _ _

/-- Part `g` of an output block after the four stores is what was stored for picture `g`. -/
theorem read_puts {κ : Kind} {sp : Space} (v : View sig κ sp S4x32x32x1 .f32) (f : v.ty.Contents (Elt Ideal))
    (r : Fin 4 → FVec Ideal S1x32x32x1 .f32) (g : Fin 4) (y z : Fin 32) :
    v.read (Elt Ideal) (v.writes (Elt Ideal) f ([3, 2, 1, 0].map fun g : Fin 4 => put g (r g))) (ix4 g y z 0) = r g (ix4 0 y z 0) := by
  have hmem : ∀ g : Fin 4, g ∈ ([3, 2, 1, 0] : List (Fin 4)) := by decide
  have hemb : ∀ (g : Fin 4) (x : S1x32x32x1.Idx),
      (Rect.unit (s := S4x32x32x1) ![g.val, 0, 0, 0] S1x32x32x1.size (out_inb g)).emb x = ix4 g (x 1) (x 2) 0 := by
    intro g x
    have h0 : (x 0).val < 1 := (x 0).isLt
    have h3 : (x 3).val < 1 := (x 3).isLt
    refine Rect.emb_eq_of_coords _ _ _ fun a => ?_
    match a with
    | ⟨0, _⟩ => show g.val = g.val + 1 * (x 0).val; omega
    | ⟨1, _⟩ => show (x 1).val = 0 + 1 * (x 1).val; omega
    | ⟨2, _⟩ => show (x 2).val = 0 + 1 * (x 2).val; omega
    | ⟨3, _⟩ => show 0 = 0 + 1 * (x 3).val; omega
  refine v.read_writes_apply_of_pieces f (fun i => r (i 0) (ix4 0 (i 1) (i 2) 0)) _ ?_ (ix4 g y z 0) ?_
  · intro p hp x
    obtain ⟨g', -, rfl⟩ := List.mem_map.mp hp
    show r g' x = r _ _
    rw [show (put g' (r g')).1.emb x = ix4 g' (x 1) (x 2) 0 from hemb g' x]
    refine congrArg (r g') (funext fun a => ?_)
    match a with
    | ⟨0, _⟩ => exact Subsingleton.elim (α := Fin 1) _ _
    | ⟨1, _⟩ => rfl
    | ⟨2, _⟩ => rfl
    | ⟨3, _⟩ => exact Subsingleton.elim (α := Fin 1) _ _
  · refine ⟨put g (r g), List.mem_map.mpr ⟨g, hmem g, rfl⟩, ?_⟩
    have hm := Finset.mem_map_of_mem (Rect.unit (s := S4x32x32x1) ![g.val, 0, 0, 0] S1x32x32x1.size (out_inb g)).emb
      (Finset.mem_univ (ix4 0 y z 0 : S1x32x32x1.Idx))
    rw [Rect.map_emb_univ, hemb g (ix4 0 y z 0)] at hm
    exact hm

/-- What is stored for picture `g` is its saliency, where the halo of the scratch array was zero before the first picture. -/
theorem result_apply {W : Weights} (hW : ∀ t, IsWeights W t fun l o => part arg2 harg2 x1 t (ix3 0 l o))
    (f f' : arg7.view.ty.Contents (Elt Ideal)) (L : List (View.Piece (Elt Ideal) S2x1120x1152 .bf16))
    (h : HaloZero (arg7.view.read (Elt Ideal) (arg7.view.writes (Elt Ideal) f L))) (g : Fin 4) (y z : Fin 32) :
    result arg1 harg1 arg2 harg2 arg3 harg3 arg4 harg4 arg5 harg5 arg7 x0 x1 x2 x3 x4 f f' L g (ix4 0 y z 0) =
      saliency (picture (pic arg1 harg1 x0 g)) W (fun o => row arg3 harg3 x2 (ix2 0 o)) (fun o => row arg4 harg4 x3 (ix2 0 o))
        (one arg5 harg5 x4 (ix2 0 0)) y.val z.val := by
  have hg : (⟨g.val % 4, Nat.mod_lt _ (by decide)⟩ : Fin 4) = g := Fin.ext (Nat.mod_eq_of_lt g.isLt)
  have hl : ∀ (f : arg7.view.ty.Contents (Elt Ideal)) (t : Fin 3), (t = 1 ∨ HaloZero (arg7.view.read (Elt Ideal) (arg7.view.writes (Elt Ideal) f L))) →
      IsLines (picture (pic arg1 harg1 x0 g)) t fun n l => load arg7.view f (stored (pic arg1 harg1 x0) L (g.val + 1)) (slabOf g.val) t (ix3 0 n l) := by
    intro f t ht
    have := load_isLines arg7.view f (slabOf g.val) (pic arg1 harg1 x0 ⟨g.val % 4, Nat.mod_lt _ (by decide)⟩) (stored (pic arg1 harg1 x0) L g.val) t
      (ht.imp_right fun h => h.stored arg7.view f _ g.val)
    rw [hg] at this
    simp only [stored, hg]
    exact this
  exact head_apply (hl f 0 (.inr h)) (hl f' 1 (.inl rfl)) (hl f 2 (.inr h)) (hW 0) (hW 1) (hW 2) _ _ _ y z

end Run

end Cert.Saliency
-- ==== Proof.Arrays.lean ====
/-
  What the blocks of the grid points hold, in terms of the arguments.

  Before the grid runs, the host rearranges the weights of the convolution, places in the window first, and lays the
  two biases and the second weights out as rows. Grid point `t` then gets pictures 4 * t to 4 * t + 3 of the features, and the
  whole of the other arrays.
-/
module

public import proofs.«01_k».proof.Proof.Body
public import Idealize.ShloMosaic.Lib.StableHlo.Run

@[expose] public section

noncomputable section

namespace Cert.Saliency

open Cert.KernelIdeal Cert.KernelIdeal.Gen Idealize.ShloMosaic Idealize.ShloMosaic.TcCoe Idealize.SL.Sem

variable (m : (ℓ : Loc nD τ sig) → Buf (Elt Ideal) ℓ) (c : Dev nD)

/-- The features, as the arguments hold them. -/
abbrev features : Vec Ideal S16x32x32x384 .f32 := m ((c : Thread nD τ).loc main_arg0)
/-- The convolution's weights, as the arguments hold them. -/
abbrev weights : Vec Ideal S128x384x3x3 .f32 := m ((c : Thread nD τ).loc main_arg1)
/-- The convolution's bias, as the arguments hold it. -/
abbrev bias : Vec Ideal S128 .f32 := m ((c : Thread nD τ).loc main_arg2)
/-- The channels' weights, as the arguments hold them. -/
abbrev channels : Vec Ideal S1x128x1x1 .f32 := m ((c : Thread nD τ).loc main_arg3)
/-- The last bias, as the arguments hold it. -/
abbrev offset : Vec Ideal S1 .f32 := m ((c : Thread nD τ).loc main_arg4)

/-- The rearranged weights, when the grid starts. -/
theorem V_weights : V m c main_v2 = (truncf (F := Ideal) .bf16 (shapeCast S3x1152x128 (transpose S3x3x384x128 [2, 3, 1, 0] (weights m c) transposes_S128x384x3x3_S3x3x384x128_2_3_1_0) shapeCasts_S3x3x384x128_S3x1152x128) bitsLt_bf16_f32 : Vec Ideal S3x1152x128 .bf16) := by
  simp only [V, hostOps0]
  after_results
  rfl

/-- The bias row, when the grid starts. -/
theorem V_bias : V m c main_v4 = (shapeCast S1x128 (bias m c) shapeCasts_S128_S1x128 : Vec Ideal S1x128 .f32) := by
  simp only [V, hostOps0]
  after_results
  rfl

/-- The channels' weights as a row, when the grid starts. -/
theorem V_channels : V m c main_v3 = (shapeCast S1x128 (channels m c) shapeCasts_S1x128x1x1_S1x128 : Vec Ideal S1x128 .f32) := by
  simp only [V, hostOps0]
  after_results
  rfl

/-- The last bias as a 1 by 1 array, when the grid starts. -/
theorem V_offset : V m c main_v5 = (shapeCast S1x1 (offset m c) shapeCasts_S1_S1x1 : Vec Ideal S1x1 .f32) := by
  simp only [V, hostOps0]
  after_results
  rfl

/-- Where the blocks of the five input windows start: the features' moves with the grid point, the others stay. -/
theorem starts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The features' block at grid point `t` holds pictures `4 * t` to `4 * t + 3`. -/
theorem block_features (t : Fin cfg0.N) (g : Fin 4) (y z : Fin 32) (k : Fin 384) (b : Fin 16) (hb : b.val = 4 * t.val + g.val) :
    (iblk m c 0 t : Vec Ideal S4x32x32x384 .f32) (ix4 g y z k) = features m c (ix4 b y z k) := by
  obtain ⟨h0, h1, h2, h3, -⟩ := starts t
  show V m c main_arg0 (((cfg0.win 0).blk t).view.emb (ix4 g y z k)) = _
  rw [V_main_arg0]
  refine congrArg (features m c) (funext fun a => Fin.ext ?_)
  match a with
  | ⟨0, _⟩ => show win0_0.index t (0 : Fin 4) * 4 + 1 * g.val = b.val; omega
  | ⟨1, _⟩ => show win0_0.index t (1 : Fin 4) * 32 + 1 * y.val = y.val; omega
  | ⟨2, _⟩ => show win0_0.index t (2 : Fin 4) * 32 + 1 * z.val = z.val; omega
  | ⟨3, _⟩ => show win0_0.index t (3 : Fin 4) * 384 + 1 * k.val = k.val; omega

/-- The weights' block is the whole rearranged array. -/
theorem block_weights (t : Fin cfg0.N) : (iblk m c 1 t : Vec Ideal S3x1152x128 .bf16) = V m c main_v2 := by
  obtain ⟨-, -, -, -, h0, h1, h2, -⟩ := starts t
  funext i
  refine congrArg (V m c main_v2) (funext fun a => Fin.ext ?_)
  match a with
  | ⟨0, _⟩ => show win0_1.index t (0 : Fin 3) * 3 + 1 * (i 0).val = (i 0).val; omega
  | ⟨1, _⟩ => show win0_1.index t (1 : Fin 3) * 1152 + 1 * (i 1).val = (i 1).val; omega
  | ⟨2, _⟩ => show win0_1.index t (2 : Fin 3) * 128 + 1 * (i 2).val = (i 2).val; omega

/-- The bias' block is the whole row. -/
theorem block_bias (t : Fin cfg0.N) : (iblk m c 2 t : Vec Ideal S1x128 .f32) = V m c main_v4 := by
  obtain ⟨-, -, -, -, -, -, -, h0, h1, -⟩ := starts t
  funext i
  refine congrArg (V m c main_v4) (funext fun a => Fin.ext ?_)
  match a with
  | ⟨0, _⟩ => show win0_2.index t (0 : Fin 2) * 1 + 1 * (i 0).val = (i 0).val; omega
  | ⟨1, _⟩ => show win0_2.index t (1 : Fin 2) * 128 + 1 * (i 1).val = (i 1).val; omega

/-- The channels' weights' block is the whole row. -/
theorem block_channels (t : Fin cfg0.N) : (iblk m c 3 t : Vec Ideal S1x128 .f32) = V m c main_v3 := by
  obtain ⟨-, -, -, -, -, -, -, -, -, h0, h1, -⟩ := starts t
  funext i
  refine congrArg (V m c main_v3) (funext fun a => Fin.ext ?_)
  match a with
  | ⟨0, _⟩ => show win0_3.index t (0 : Fin 2) * 1 + 1 * (i 0).val = (i 0).val; omega
  | ⟨1, _⟩ => show win0_3.index t (1 : Fin 2) * 128 + 1 * (i 1).val = (i 1).val; omega

/-- The last bias' block is the whole 1 by 1 array. -/
theorem block_offset (t : Fin cfg0.N) : (iblk m c 4 t : Vec Ideal S1x1 .f32) = V m c main_v5 := by
  obtain ⟨-, -, -, -, -, -, -, -, -, -, -, h0, h1⟩ := starts t
  funext i
  refine congrArg (V m c main_v5) (funext fun a => Fin.ext ?_)
  match a with
  | ⟨0, _⟩ => show win0_4.index t (0 : Fin 2) * 1 + 1 * (i 0).val = (i 0).val; omega
  | ⟨1, _⟩ => show win0_4.index t (1 : Fin 2) * 1 + 1 * (i 1).val = (i 1).val; omega

/-- The weights' block, at an index: column `384 * d + k` of part `t` is the weight at place `(t, d)` of channel `k`. -/
theorem block_weights_apply (n : Fin cfg0.N) (t d : Fin 3) (l : Fin 1152) (k : Fin 384) (o : Fin 128) (h : l.val = 384 * d.val + k.val) :
    (iblk m c 1 n : Vec Ideal S3x1152x128 .bf16) (ix3 t l o) = weights m c (ix4 o k t d) := by
  rw [block_weights, V_weights]
  show shapeCast S3x1152x128 (transpose S3x3x384x128 [2, 3, 1, 0] (weights m c) transposes_S128x384x3x3_S3x3x384x128_2_3_1_0)
    shapeCasts_S3x3x384x128_S3x1152x128 (ix3 t l o) = _
  refine (shapeCast_apply _ _ _ (ix4 t d k o) ?_).trans ?_
  · rw [rowMajor_val3 _ (1152 * 128) 128 rfl rfl, rowMajor_val4 _ (3 * (384 * 128)) (384 * 128) 128 rfl rfl rfl]
    show t.val * (3 * (384 * 128)) + d.val * (384 * 128) + k.val * 128 + o.val = t.val * (1152 * 128) + l.val * 128 + o.val
    omega
  · pointwise

/-- The bias' block, at an index. -/
theorem block_bias_apply (n : Fin cfg0.N) (o : Fin 128) : (iblk m c 2 n : Vec Ideal S1x128 .f32) (ix2 0 o) = bias m c (ix1 o) := by
  rw [block_bias, V_bias]
  pointwise

/-- The channels' weights' block, at an index. -/
theorem block_channels_apply (n : Fin cfg0.N) (o : Fin 128) : (iblk m c 3 n : Vec Ideal S1x128 .f32) (ix2 0 o) = channels m c (ix4 0 o 0 0) := by
  rw [block_channels, V_channels]
  pointwise

/-- The last bias' block, at its only index. -/
theorem block_offset_apply (n : Fin cfg0.N) : (iblk m c 4 n : Vec Ideal S1x1 .f32) (ix2 0 0) = offset m c (ix1 0) := by
  rw [block_offset, V_offset]
  pointwise

end Cert.Saliency
-- ==== Proof.Points.lean ====
/-
  What every grid point leaves in its output block.

  The halo of the scratch array is zero after every grid point, by induction along the grid: the first one clears the array,
  and no store touches the halo afterwards. So every grid point's block holds the saliencies of its four pictures.
-/
module

public import proofs.«01_k».proof.Proof.Arrays

@[expose] public section

noncomputable section

namespace Cert.Saliency

open Cert.KernelIdeal Cert.KernelIdeal.Gen Idealize.ShloMosaic Idealize.ShloMosaic.TcCoe Idealize.SL.Sem

/-- A load of picture `g`, at an index. -/
theorem pic_apply (a : Memref sig .tc .vmem S4x32x32x384 .f32) (h : a.IsWhole) (x : Vec Ideal S4x32x32x384 .f32) (g : Fin 4) (y z : Fin 32) (k : Fin 384) :
    pic a h x g (ix4 0 y z k) = x (ix4 g y z k) := by
  show a.view.read (Elt Ideal) (h.unread x) ((Rect.unit (s := S4x32x32x384) ![g.val, 0, 0, 0] S1x32x32x384.size (block_inb g)).toLoadRect.idx (ix4 0 y z k)) = _
  rw [h.read_unread]
  refine congrArg x (funext fun a => Fin.ext ?_)
  match a with
  | ⟨0, _⟩ => show g.val + 1 * 0 = g.val; omega
  | ⟨1, _⟩ => show 0 + 1 * y.val = y.val; omega
  | ⟨2, _⟩ => show 0 + 1 * z.val = z.val; omega
  | ⟨3, _⟩ => show 0 + 1 * k.val = k.val; omega

/-- A load of part `t` of the weights, at an index. -/
theorem part_apply (a : Memref sig .tc .vmem S3x1152x128 .bf16) (h : a.IsWhole) (x : Vec Ideal S3x1152x128 .bf16) (t : Fin 3) (l : Fin 1152) (o : Fin 128) :
    part a h x t (ix3 0 l o) = x (ix3 t l o) := by
  show a.view.read (Elt Ideal) (h.unread x) ((Rect.unit (s := S3x1152x128) ![t.val, 0, 0] S1x1152x128.size (weight_inb t)).toLoadRect.idx (ix3 0 l o)) = _
  rw [h.read_unread]
  refine congrArg x (funext fun a => Fin.ext ?_)
  match a with
  | ⟨0, _⟩ => show t.val + 1 * 0 = t.val; omega
  | ⟨1, _⟩ => show 0 + 1 * l.val = l.val; omega
  | ⟨2, _⟩ => show 0 + 1 * o.val = o.val; omega

/-- A load of a whole row, at an index. -/
theorem row_apply (a : Memref sig .tc .vmem S1x128 .f32) (h : a.IsWhole) (x : Vec Ideal S1x128 .f32) (o : Fin 128) :
    row a h x (ix2 0 o) = x (ix2 0 o) := by
  show a.view.read (Elt Ideal) (h.unread x) ((Rect.unit (s := S1x128) ![0, 0] S1x128.size inb_S1x128_S1x128_0_0).toLoadRect.idx (ix2 0 o)) = _
  rw [h.read_unread]
  refine congrArg x (funext fun a => Fin.ext ?_)
  match a with
  | ⟨0, _⟩ => rfl
  | ⟨1, _⟩ => show 0 + 1 * o.val = o.val; omega

/-- A load of a single number. -/
theorem one_apply (a : Memref sig .tc .vmem S1x1 .f32) (h : a.IsWhole) (x : Vec Ideal S1x1 .f32) : one a h x (ix2 0 0) = x (ix2 0 0) := by
  show a.view.read (Elt Ideal) (h.unread x) ((Rect.unit (s := S1x1) ![0, 0] S1x1.size inb_S1x1_S1x1_0_0).toLoadRect.idx (ix2 0 0)) = _
  rw [h.read_unread]
  refine congrArg x (funext fun a => Fin.ext ?_)
  match a with
  | ⟨0, _⟩ => rfl
  | ⟨1, _⟩ => rfl

variable (m : (ℓ : Loc nD τ sig) → Buf (Elt Ideal) ℓ) (c : Dev nD)

/-- The saliency of picture `b` at row `y` and column `z`, from the arguments. -/
def answer (b : Fin 16) (y z : Fin 32) : EReal :=
  saliency (fun y z k => features m c (ix4 b y z k)) (fun o k t d => weights m c (ix4 o k t d)) (fun o => bias m c (ix1 o))
    (fun o => channels m c (ix4 0 o 0 0)) (offset m c (ix1 0)) y.val z.val

/-- What a grid point stores for picture `g` of its block, where the halo was zero before, is the answer for that picture. -/
theorem result_answer (t : Fin cfg0.N) {sc : Memref sig .tc .vmem S2x1120x1152 .bf16} (f f' : sc.view.ty.Contents (Elt Ideal))
    (L : List (View.Piece (Elt Ideal) S2x1120x1152 .bf16))
    (h : HaloZero (sc.view.read (Elt Ideal) (sc.view.writes (Elt Ideal) f L))) (g : Fin 4) (y z : Fin 32) (b : Fin 16) (hb : b.val = 4 * t.val + g.val) :
    result (ms0_0 t) (hs0_0 t) (ms0_1 t) (hs0_1 t) (ms0_2 t) (hs0_2 t) (ms0_3 t) (hs0_3 t) (ms0_4 t) (hs0_4 t) sc
      (iblk m c 0 t) (iblk m c 1 t) (iblk m c 2 t) (iblk m c 3 t) (iblk m c 4 t) f f' L g (ix4 0 y z 0) = answer m c b y z := by
  have hW : ∀ u, IsWeights (fun o k t d => weights m c (ix4 o k t d)) u fun l o => part (ms0_1 t) (hs0_1 t) (iblk m c 1 t) u (ix3 0 l o) :=
    fun u d k l o hl => (part_apply _ _ _ u l o).trans (block_weights_apply m c t u d l k o hl)
  refine (result_apply (ms0_0 t) (hs0_0 t) (ms0_1 t) (hs0_1 t) (ms0_2 t) (hs0_2 t) (ms0_3 t) (hs0_3 t) (ms0_4 t) (hs0_4 t) sc
      (iblk m c 0 t) (iblk m c 1 t) (iblk m c 2 t) (iblk m c 3 t) (iblk m c 4 t) hW f f' L h g y z).trans ?_
  have e0 : picture (pic (ms0_0 t) (hs0_0 t) (iblk m c 0 t) g) = fun y z k => features m c (ix4 b y z k) :=
    funext fun y => funext fun z => funext fun k => (pic_apply _ _ _ g y z k).trans (block_features m c t g y z k b hb)
  have e2 : (fun o => row (ms0_2 t) (hs0_2 t) (iblk m c 2 t) (ix2 0 o)) = fun o => bias m c (ix1 o) :=
    funext fun o => (row_apply _ _ _ o).trans (block_bias_apply m c t o)
  have e3 : (fun o => row (ms0_3 t) (hs0_3 t) (iblk m c 3 t) (ix2 0 o)) = fun o => channels m c (ix4 0 o 0 0) :=
    funext fun o => (row_apply _ _ _ o).trans (block_channels_apply m c t o)
  have e4 : one (ms0_4 t) (hs0_4 t) (iblk m c 4 t) (ix2 0 0) = offset m c (ix1 0) := (one_apply _ _ _).trans (block_offset_apply m c t)
  rw [e0, e2, e3, e4]
  rfl

/-- The halo is zero after the first grid point, which clears the array. -/
theorem halo_first (t : Fin cfg0.N) (h0 : t.val % 4 = 0) : HaloZero (outsAt0 m c t.val t.isLt).2 := by
  rw [outsAt0_A m c t h0]
  dsimp only
  unfold sout0_A_0
  rw [scratch_first]
  exact HaloZero.stored VS0_0 VS0_0.junk _ (haloZero_cleared VS0_0 VS0_0.junk) 4

/-- Reading back contents that were given with no store over them. -/
theorem halo_unread {sc : Memref sig .tc .vmem S2x1120x1152 .bf16} (hsc : sc.IsWhole) {x : Vec Ideal S2x1120x1152 .bf16} (h : HaloZero x) :
    HaloZero (sc.view.read (Elt Ideal) (sc.view.writes (Elt Ideal) (hsc.unread x) [])) := by
  show HaloZero (sc.view.read (Elt Ideal) (hsc.unread x))
  rw [hsc.read_unread]
  exact h

/-- The halo is zero after a later grid point, where it was zero after the one before. -/
theorem halo_later (t : Fin cfg0.N) (h0 : ¬ t.val % 4 = 0) (h : HaloZero (outsAt0 m c (t.val - 1) (Nat.lt_of_le_of_lt (Nat.sub_le _ _) t.isLt)).2) :
    HaloZero (outsAt0 m c t.val t.isLt).2 := by
  rw [outsAt0_B m c t h0]
  dsimp only
  unfold sout0_B_0
  rw [scratch_later]
  exact HaloZero.stored scM0_0.view _ _ (halo_unread (Memref.isWhole_whole _) h) 4

/-- The halo of the scratch array is zero after every grid point. -/
theorem halo_after : ∀ n (hn : n < cfg0.N), HaloZero (outsAt0 m c n hn).2
  | 0, hn => halo_first m c ⟨0, hn⟩ rfl
  | n + 1, hn => halo_later m c ⟨n + 1, hn⟩ (by have : cfg0.N = 4 := N_0; show ¬ (n + 1) % 4 = 0; omega)
      (halo_after n (Nat.lt_of_succ_lt hn))

/-- Every grid point's output block holds the answers for its four pictures. -/
theorem block_answer (t : Fin cfg0.N) (g : Fin 4) (y z : Fin 32) (b : Fin 16) (hb : b.val = 4 * t.val + g.val) :
    (outsAt0 m c t.val t.isLt).1 (ix4 g y z 0) = answer m c b y z := by
  by_cases h0 : t.val % 4 = 0
  · rw [outsAt0_A m c t h0]
    dsimp only
    unfold out0_A_5
    rw [puts_first]
    exact (read_puts VO0_5 VO0_5.junk _ g y z).trans
      (result_answer m c t scM0_0.view.junk scM0_0.view.junk _ (haloZero_cleared scM0_0.view scM0_0.view.junk) g y z b hb)
  · rw [outsAt0_B m c t h0]
    dsimp only
    unfold out0_B_5
    rw [puts_later]
    exact (read_puts VO0_5 VO0_5.junk _ g y z).trans
      (result_answer m c t _ scM0_0.view.junk [] (halo_unread (Memref.isWhole_whole _) (halo_after m c _ _)) g y z b hb)

end Cert.Saliency
-- ==== Proof.RefValue.lean ====
/-
  What the reference computes.

  It pads the features with a border of zeros, sums the nine products of the shifted features and the weights at one
  place of the window, adds the bias, keeps the positive part, weighs and sums the channels, and takes the logistic
  function. At every index that is the saliency.
-/
module

public import proofs.«01_k».proof.Proof.Head
public import proofs.«01_k».proof.Proof.Gen.ReferenceIdeal.Run

@[expose] public section

noncomputable section

namespace Cert.Saliency

open Cert.ReferenceIdeal Cert.ReferenceIdeal.Gen Idealize.ShloMosaic Idealize.ShloMosaic.TcCoe Idealize.SL.Sem

/-- The features with their border of zeros. -/
def padded (x : FVec Ideal S16x32x32x384 .f32) : FVec Ideal S16x34x34x384 .f32 :=
  pad S16x34x34x384 ![0, 1, 1, 0] ![0, 1, 1, 0] ![0, 0, 0, 0] x (sitofp .f32 (constantI S_ 32 0#32)) pads_S16x32x32x384_S16x34x34x384_000_110_110_000 h_S_

/-- At an index they are the picture within its border. -/
theorem padded_apply (x : FVec Ideal S16x32x32x384 .f32) (b : Fin 16) (u v : Fin 34) (k : Fin 384) :
    padded x (ix4 b u v k) = bordered (fun y z k => x (ix4 b y z k)) u.val v.val k := by
  pointwise [padded]
  by_cases h : (1 ≤ u.val ∧ u.val - 1 < 32) ∧ 1 ≤ v.val ∧ v.val - 1 < 32
  · rw [dif_pos h]
    exact (bordered_inside (fun y z k => x (ix4 b y z k)) _ _ k ⟨u.val - 1, h.1.2⟩ ⟨v.val - 1, h.2.2⟩ (Nat.sub_add_cancel h.1.1).symm (Nat.sub_add_cancel h.2.1).symm).symm
  · rw [dif_neg h, bordered_outside _ _ _ _ (by omega)]
    show (((0#32 : BitVec 32).toInt : ℝ) : EReal) = 0
    simp

/-- One of the nine products: the features shifted by place `(t, d)` of the window, times the weights there. -/
def product (x : FVec Ideal S16x32x32x384 .f32) (w : FVec Ideal S128x384x3x3 .f32) (t d : Fin 3)
    (hx : S16x34x34x384.Slices ![0, t.val, d.val, 0] S16x32x32x384) (hw : S128x384x3x3.Slices ![0, 0, t.val, d.val] S128x384x1x1) :
    FVec Ideal S16x32x32x128 .f32 :=
  Host.dotGeneral (F := Ideal) dot_S16x32x32x384_S128x384_S16x32x32x128_3_1_012_0_n_n none
    (extractStridedSlice S16x32x32x384 ![0, t.val, d.val, 0] (padded x) hx)
    (shapeCast S128x384 (extractStridedSlice S128x384x1x1 ![0, 0, t.val, d.val] w hw) shapeCasts_S128x384x1x1_S128x384)

/-- At an index it is the sum over the input channels. -/
theorem product_apply (x : FVec Ideal S16x32x32x384 .f32) (w : FVec Ideal S128x384x3x3 .f32) (t d : Fin 3)
    (hx : S16x34x34x384.Slices ![0, t.val, d.val, 0] S16x32x32x384) (hw : S128x384x3x3.Slices ![0, 0, t.val, d.val] S128x384x1x1)
    (b : Fin 16) (y z : Fin 32) (o : Fin 128) :
    product x w t d hx hw (ix4 b y z o) =
      ∑ k : Fin 384, bordered (fun y z k => x (ix4 b y z k)) (t.val + y.val) (z.val + d.val) k * w (ix4 o k t d) := by
  pointwise [product, dot_S16x32x32x384_S128x384_S16x32x32x128_3_1_012_0_n_n]
  refine Finset.sum_congr rfl fun k _ => congrArg (· * w (ix4 o k t d)) ((padded_apply x b _ _ k).trans ?_)
  exact congrArg (fun v => bordered (fun y z k => x (ix4 b y z k)) (t.val + y.val) v k) (Nat.add_comm _ _)

/-- The sum of the nine products, in the reference's order. -/
def summed (x : FVec Ideal S16x32x32x384 .f32) (w : FVec Ideal S128x384x3x3 .f32) : FVec Ideal S16x32x32x128 .f32 :=
  addf (addf (addf (addf (addf (addf (addf (addf (addf (broadcastInDim S16x32x32x128 ![] bcast_S_S16x32x32x128 (constant S_ .f32 0x00000000#32))
    (product x w 0 0 slices_S16x34x34x384_S16x32x32x384_0_0_0_0 slices_S128x384x3x3_S128x384x1x1_0_0_0_0))
    (product x w 0 1 slices_S16x34x34x384_S16x32x32x384_0_0_1_0 slices_S128x384x3x3_S128x384x1x1_0_0_0_1))
    (product x w 0 2 slices_S16x34x34x384_S16x32x32x384_0_0_2_0 slices_S128x384x3x3_S128x384x1x1_0_0_0_2))
    (product x w 1 0 slices_S16x34x34x384_S16x32x32x384_0_1_0_0 slices_S128x384x3x3_S128x384x1x1_0_0_1_0))
    (product x w 1 1 slices_S16x34x34x384_S16x32x32x384_0_1_1_0 slices_S128x384x3x3_S128x384x1x1_0_0_1_1))
    (product x w 1 2 slices_S16x34x34x384_S16x32x32x384_0_1_2_0 slices_S128x384x3x3_S128x384x1x1_0_0_1_2))
    (product x w 2 0 slices_S16x34x34x384_S16x32x32x384_0_2_0_0 slices_S128x384x3x3_S128x384x1x1_0_0_2_0))
    (product x w 2 1 slices_S16x34x34x384_S16x32x32x384_0_2_1_0 slices_S128x384x3x3_S128x384x1x1_0_0_2_1))
    (product x w 2 2 slices_S16x34x34x384_S16x32x32x384_0_2_2_0 slices_S128x384x3x3_S128x384x1x1_0_0_2_2)

/-- At an index the nine products sum to the convolution. -/
theorem summed_apply (x : FVec Ideal S16x32x32x384 .f32) (w : FVec Ideal S128x384x3x3 .f32) (b : Fin 16) (y z : Fin 32) (o : Fin 128) :
    summed x w (ix4 b y z o) = conv (fun y z k => x (ix4 b y z k)) (fun o k t d => w (ix4 o k t d)) y.val z.val o := by
  pointwise [summed]
  simp only [product_apply, conv, Fin.sum_univ_three]
  simp only [add_assoc]

/-- What the reference does with the convolution: bias, positive part, weighted sum of the channels, last bias, logistic function. -/
def finish (s : FVec Ideal S16x32x32x128 .f32) (p : FVec Ideal S128 .f32) (q : FVec Ideal S1x128x1x1 .f32) (e : FVec Ideal S1 .f32) :
    FVec Ideal S16x32x32x1 .f32 :=
  Host.divf (broadcastInDim S16x32x32x1 ![] bcast_S_S16x32x32x1 (constant S_ .f32 0x3F800000#32))
    (addf (broadcastInDim S16x32x32x1 ![] bcast_S_S16x32x32x1 (constant S_ .f32 0x3F800000#32))
      (Host.exp (Host.negf (addf (Host.dotGeneral dot_S16x32x32x128_S1x128_S16x32x32x1_3_1_012_0_n_n none
        (maximumf (addf s (broadcastInDim S16x32x32x128 ![0, 1, 2, 3] bcast_S1x1x1x128_S16x32x32x128_0_1_2_3 (broadcastInDim S1x1x1x128 ![3] bcast_S128_S1x1x1x128_3 p)))
          (broadcastInDim S16x32x32x128 ![] bcast_S_S16x32x32x128 (constant S_ .f32 0x00000000#32)))
        (shapeCast S1x128 q shapeCasts_S1x128x1x1_S1x128))
        (broadcastInDim S16x32x32x1 ![0, 1, 2, 3] bcast_S1x1x1x1_S16x32x32x1_0_1_2_3 (broadcastInDim S1x1x1x1 ![3] bcast_S1_S1x1x1x1_3 e))))))

/-- At an index. -/
theorem finish_apply (s : FVec Ideal S16x32x32x128 .f32) (p : FVec Ideal S128 .f32) (q : FVec Ideal S1x128x1x1 .f32) (e : FVec Ideal S1 .f32)
    (b : Fin 16) (y z : Fin 32) :
    finish s p q e (ix4 b y z 0) =
      Ideal.logistic ((∑ o : Fin 128, max (s (ix4 b y z o) + p (ix1 o)) 0 * q (ix4 0 o 0 0)) + e (ix1 0)) := by
  pointwise [finish, dot_S16x32x32x128_S1x128_S16x32x32x1_3_1_012_0_n_n]
  rfl

variable (m : (ℓ : Loc nD τ sig) → Buf (Elt Ideal) ℓ) (c : Dev nD)

/-- The reference's result is the saliency of each picture. -/
theorem reference_apply (b : Fin 16) (y z : Fin 32) :
    (Value.res_main_v61 m c : FVec Ideal S16x32x32x1 .f32) (ix4 b y z 0) =
      saliency (fun y z k => (m ((c.tc : Thread nD τ).loc main_arg0) : FVec Ideal S16x32x32x384 .f32) (ix4 b y z k))
        (fun o k t d => (m ((c.tc : Thread nD τ).loc main_arg1) : FVec Ideal S128x384x3x3 .f32) (ix4 o k t d))
        (fun o => (m ((c.tc : Thread nD τ).loc main_arg2) : FVec Ideal S128 .f32) (ix1 o))
        (fun o => (m ((c.tc : Thread nD τ).loc main_arg3) : FVec Ideal S1x128x1x1 .f32) (ix4 0 o 0 0))
        ((m ((c.tc : Thread nD τ).loc main_arg4) : FVec Ideal S1 .f32) (ix1 0)) y.val z.val := by
  have e : Value.res_main_v61 m c = finish (summed (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4)) := rfl
  rw [e, finish_apply]
  simp only [summed_apply]
  rfl

end Cert.Saliency
-- ==== Proof.Equation.lean ====
/-
  The equation of the two results.

  The array the kernel leaves is pieced together from the grid points' output blocks: picture `b` is in the block of grid
  point `b / 4`, at place `b % 4`. So both programs leave the saliency of every picture, and on equal arguments their
  results are equal.
-/
module

public import proofs.«01_k».proof.Proof.Points
public import proofs.«01_k».proof.Proof.RefValue
public import proofs.«01_k».proof.Proof.Gen.KernelIdeal.Value

@[expose] public section

noncomputable section

namespace Cert.Saliency

open Idealize.ShloMosaic Idealize.ShloMosaic.TcCoe Idealize.SL.Sem

/-- The array after the kernel's run holds the answer for every picture. -/
theorem kernel_apply (m : (ℓ : Loc Cert.KernelIdeal.nD Cert.KernelIdeal.τ Cert.KernelIdeal.sig) → Buf (Elt Ideal) ℓ) (c : Dev Cert.KernelIdeal.nD)
    (b : Fin 16) (y z : Fin 32) :
    (Cert.KernelIdeal.Value.G5 m c : Vec Ideal Cert.KernelIdeal.S16x32x32x1 .f32) (ix4 b y z 0) = answer m c b y z := by
  have hN : Cert.KernelIdeal.cfg0.N = 4 := Cert.KernelIdeal.Gen.N_0
  have hp : Cert.KernelIdeal.Value.pt5Of (ix4 b y z 0) = b.val / 4 := by
    show 1 * (b.val / 4 - 0) + 1 * (y.val / 32 - 0) + 1 * (z.val / 32 - 0) + 1 * (0 / 1 - 0) = b.val / 4
    omega
  have hl : Cert.KernelIdeal.Value.loc5Of (ix4 b y z 0) = ix4 (⟨b.val % 4, Nat.mod_lt _ (by decide)⟩ : Fin 4) y z 0 := by
    funext a
    refine Fin.ext ?_
    match a with
    | ⟨0, _⟩ => rfl
    | ⟨1, _⟩ => exact Nat.mod_eq_of_lt y.isLt
    | ⟨2, _⟩ => exact Nat.mod_eq_of_lt z.isLt
    | ⟨3, _⟩ => rfl
  have hlt : Cert.KernelIdeal.Value.pt5Of (ix4 b y z 0) < Cert.KernelIdeal.cfg0.N := by rw [hp]; omega
  unfold Cert.KernelIdeal.Value.G5
  rw [dif_pos hlt, ← Cert.KernelIdeal.Value.outsAt0_sweep m c _ hlt, hl]
  exact block_answer m c ⟨_, hlt⟩ ⟨b.val % 4, Nat.mod_lt _ (by decide)⟩ y z b (by
    show b.val = 4 * Cert.KernelIdeal.Value.pt5Of (ix4 b y z 0) + b.val % 4
    rw [hp]
    omega)

/-- On equal arguments the reference's result is the array the kernel leaves. -/
theorem equal_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = features m c)
    (h1 : m' ((c.tc : Thread Cert.ReferenceIdeal.nD Cert.ReferenceIdeal.τ).loc Cert.ReferenceIdeal.main_arg1) = weights m c)
    (h2 : m' ((c.tc : Thread Cert.ReferenceIdeal.nD Cert.ReferenceIdeal.τ).loc Cert.ReferenceIdeal.main_arg2) = bias m c)
    (h3 : m' ((c.tc : Thread Cert.ReferenceIdeal.nD Cert.ReferenceIdeal.τ).loc Cert.ReferenceIdeal.main_arg3) = channels m c)
    (h4 : m' ((c.tc : Thread Cert.ReferenceIdeal.nD Cert.ReferenceIdeal.τ).loc Cert.ReferenceIdeal.main_arg4) = offset m c) :
    (Cert.ReferenceIdeal.Value.res_main_v61 m' c : Vec Ideal Cert.KernelIdeal.S16x32x32x1 .f32) = Cert.KernelIdeal.Value.G5 m c := by
  funext i
  have hi : i = ix4 (i 0) (i 1) (i 2) 0 := by
    funext a
    match a with
    | ⟨0, _⟩ => rfl
    | ⟨1, _⟩ => rfl
    | ⟨2, _⟩ => rfl
    | ⟨3, _⟩ => exact Subsingleton.elim (α := Fin 1) _ _
  rw [hi]
  refine (reference_apply m' c (i 0) (i 1) (i 2)).trans (Eq.trans ?_ (kernel_apply m c (i 0) (i 1) (i 2)).symm)
  rw [h0, h1, h2, h3, h4]
  rfl

end Cert.Saliency
-- ==== Proof.lean ====
/-
  The proof of the claim.

  The frame claims are the generated runs; the value claim puts the kernel's run next to the reference's and closes with the
  equation of the two results.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference terminates, leaves its arguments as they were, and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference leave equal results. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4⟩ := hagree c
  exact Cert.Saliency.equal_results m m' c h0 h1 h2 h3 h4

/-- The whole claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
